-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.sign_bit.Statement Cert.KernelIdeal.S32x256 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S2048 : Shape := ⟨1, ![2048]⟩
abbrev S12x32 : Shape := ⟨2, ![12, 32]⟩
abbrev S128x2048 : Shape := ⟨2, ![128, 2048]⟩
abbrev S1x2048 : Shape := ⟨2, ![1, 2048]⟩
abbrev S256x128x32 : Shape := ⟨3, ![256, 128, 32]⟩
abbrev S8x2048 : Shape := ⟨2, ![8, 2048]⟩
abbrev S256x8x32 : Shape := ⟨3, ![256, 8, 32]⟩
abbrev S1x32 : Shape := ⟨2, ![1, 32]⟩
abbrev S32x1 : Shape := ⟨2, ![32, 1]⟩
abbrev S128x1 : Shape := ⟨2, ![128, 1]⟩
abbrev S2048x1 : Shape := ⟨2, ![2048, 1]⟩
abbrev S2048x256 : Shape := ⟨2, ![2048, 256]⟩
abbrev S32x2048 : Shape := ⟨2, ![32, 2048]⟩
abbrev S128x256 : Shape := ⟨2, ![128, 256]⟩
abbrev S32x256 : Shape := ⟨2, ![32, 256]⟩
abbrev S256x32 : Shape := ⟨2, ![256, 32]⟩
abbrev S256x1x32 : Shape := ⟨3, ![256, 1, 32]⟩

abbrev nBuf : Space → Nat
  | .hbm => 6
  | .vmem => 6
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S12x32, .f32⟩
  | .hbm, ⟨3, _⟩ => ⟨S128x2048, .f32⟩
  | .hbm, ⟨4, _⟩ => ⟨S1x2048, .i32⟩
  | .hbm, ⟨5, _⟩ => ⟨S256x128x32, .f32⟩
  | .local _ .vmem, ⟨0, _⟩ => ⟨S8x2048, .f32⟩
  | .local _ .vmem, ⟨1, _⟩ => ⟨S8x2048, .f32⟩
  | .local _ .vmem, ⟨2, _⟩ => ⟨S1x2048, .i32⟩
  | .local _ .vmem, ⟨3, _⟩ => ⟨S12x32, .f32⟩
  | .local _ .vmem, ⟨4, _⟩ => ⟨S256x8x32, .f32⟩
  | .local _ .vmem, ⟨5, _⟩ => ⟨S256x8x32, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S2048x128 : Shape := ⟨2, ![2048, 128]⟩
abbrev S2048 : Shape := ⟨1, ![2048]⟩
abbrev S12x32 : Shape := ⟨2, ![12, 32]⟩
abbrev S4 : Shape := ⟨1, ![4]⟩
abbrev S_ : Shape := ⟨0, ![]⟩
abbrev S2048x128x1 : Shape := ⟨3, ![2048, 128, 1]⟩
abbrev S1x1x4 : Shape := ⟨3, ![1, 1, 4]⟩
abbrev S2048x128x4 : Shape := ⟨3, ![2048, 128, 4]⟩
abbrev S2048x128x4x1 : Shape := ⟨4, ![2048, 128, 4, 1]⟩
abbrev S4x1 : Shape := ⟨2, ![4, 1]⟩
abbrev S4x32 : Shape := ⟨2, ![4, 32]⟩
abbrev S1x1x4x32 : Shape := ⟨4, ![1, 1, 4, 32]⟩
abbrev S2048x128x4x32 : Shape := ⟨4, ![2048, 128, 4, 32]⟩
abbrev S256x128x4x32 : Shape := ⟨4, ![256, 128, 4, 32]⟩
abbrev S2048x1 : Shape := ⟨2, ![2048, 1]⟩
abbrev S1x1x4x1 : Shape := ⟨4, ![1, 1, 4, 1]⟩
abbrev S256x128x32 : Shape := ⟨3, ![256, 128, 32]⟩

abbrev nBuf : Space → Nat
  | .hbm => 113
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S12x32, .f32⟩
  | .hbm, ⟨3, _⟩ => ⟨S4, .f32⟩
  | .hbm, ⟨4, _⟩ => ⟨S4, .i32⟩
  | .hbm, ⟨5, _⟩ => ⟨S4, .i32⟩
  | .hbm, ⟨6, _⟩ => ⟨S4, .i32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S_, .f32⟩
  | .hbm, ⟨15, _⟩ => ⟨S2048x128, .f32⟩
  | .hbm, ⟨16, _⟩ => ⟨S2048x128, .f32⟩
  | .hbm, ⟨17, _⟩ => ⟨S2048x128x1, .f32⟩
  | .hbm, ⟨18, _⟩ => ⟨S1x1x4, .f32⟩
  | .hbm, ⟨19, _⟩ => ⟨S_, .f32⟩
  | .hbm, ⟨20, _⟩ => ⟨S1x1x4, .f32⟩
  | .hbm, ⟨21, _⟩ => ⟨S1x1x4, .f32⟩
  | .hbm, ⟨22, _⟩ => ⟨S_, .f32⟩
  | .hbm, ⟨23, _⟩ => ⟨S1x1x4, .f32⟩
  | .hbm, ⟨24, _⟩ => ⟨S1x1x4, .f32⟩
  | .hbm, ⟨25, _⟩ => ⟨S2048x128x4, .f32⟩
  | .hbm, ⟨26, _⟩ => ⟨S2048x128x4, .f32⟩
  | .hbm, ⟨27, _⟩ => ⟨S2048x128x4, .f32⟩
  | .hbm, ⟨28, _⟩ => ⟨S2048x128x4, .f32⟩
  | .hbm, ⟨29, _⟩ => ⟨S2048x128x4, .f32⟩
  | .hbm, ⟨30, _⟩ => ⟨S2048x128x4x1, .f32⟩
  | .hbm, ⟨31, _⟩ => ⟨S_, .i32⟩
  | .hbm, ⟨32, _⟩ => ⟨S4, .i32⟩
  | .hbm, ⟨33, _⟩ => ⟨S4, .i1⟩
  | .hbm, ⟨34, _⟩ => ⟨S_, .i32⟩
  | .hbm, ⟨35, _⟩ => ⟨S4, .i32⟩
  | .hbm, ⟨36, _⟩ => ⟨S4, .i32⟩
  | .hbm, ⟨37, _⟩ => ⟨S4, .i32⟩
  | .hbm, ⟨38, _⟩ => ⟨S4x1, .i32⟩
  | .hbm, ⟨39, _⟩ => ⟨S4x32, .f32⟩
  | .hbm, ⟨40, _⟩ => ⟨S_, .f32⟩
  | .hbm, ⟨41, _⟩ => ⟨S4x32, .f32⟩
  | .hbm, ⟨42, _⟩ => ⟨S4x32, .f32⟩
  | .hbm, ⟨43, _⟩ => ⟨S1x1x4x32, .f32⟩
  | .hbm, ⟨44, _⟩ => ⟨S2048x128x4x32, .f32⟩
  | .hbm, ⟨45, _⟩ => ⟨S2048x128x4x32, .f32⟩
  | .hbm, ⟨46, _⟩ => ⟨S2048x128x4x32, .f32⟩
  | .hbm, ⟨47, _⟩ => ⟨S_, .f32⟩
  | .hbm, ⟨48, _⟩ => ⟨S256x128x4x32, .f32⟩
  | .hbm, ⟨49, _⟩ => ⟨S2048x1, .i32⟩
  | .hbm, ⟨50, _⟩ => ⟨S256x128x4x32, .f32⟩
  | .hbm, ⟨51, _⟩ => ⟨S_, .f32⟩
  | .hbm, ⟨52, _⟩ => ⟨S256x128x4x32, .f32⟩
  | .hbm, ⟨53, _⟩ => ⟨S256x128x4x32, .f32⟩
  | .hbm, ⟨54, _⟩ => ⟨S_, .i32⟩
  | .hbm, ⟨55, _⟩ => ⟨S4, .i32⟩
  | .hbm, ⟨56, _⟩ => ⟨S4, .i1⟩
  | .hbm, ⟨57, _⟩ => ⟨S_, .i32⟩
  | .hbm, ⟨58, _⟩ => ⟨S4, .i32⟩
  | .hbm, ⟨59, _⟩ => ⟨S4, .i32⟩
  | .hbm, ⟨60, _⟩ => ⟨S4, .i32⟩
  | .hbm, ⟨61, _⟩ => ⟨S4x1, .i32⟩
  | .hbm, ⟨62, _⟩ => ⟨S4x32, .f32⟩
  | .hbm, ⟨63, _⟩ => ⟨S_, .f32⟩
  | .hbm, ⟨64, _⟩ => ⟨S4x32, .f32⟩
  | .hbm, ⟨65, _⟩ => ⟨S4x32, .f32⟩
  | .hbm, ⟨66, _⟩ => ⟨S1x1x4x32, .f32⟩
  | .hbm, ⟨67, _⟩ => ⟨S256x128x4x32, .f32⟩
  | .hbm, ⟨68, _⟩ => ⟨S256x128x4x32, .f32⟩
  | .hbm, ⟨69, _⟩ => ⟨S_, .i32⟩
  | .hbm, ⟨70, _⟩ => ⟨S4, .i32⟩
  | .hbm, ⟨71, _⟩ => ⟨S4, .i1⟩
  | .hbm, ⟨72, _⟩ => ⟨S_, .i32⟩
  | .hbm, ⟨73, _⟩ => ⟨S4, .i32⟩
  | .hbm, ⟨74, _⟩ => ⟨S4, .i32⟩
  | .hbm, ⟨75, _⟩ => ⟨S4, .i32⟩
  | .hbm, ⟨76, _⟩ => ⟨S4x1, .i32⟩
  | .hbm, ⟨77, _⟩ => ⟨S4x32, .f32⟩
  | .hbm, ⟨78, _⟩ => ⟨S1x1x4x32, .f32⟩
  | .hbm, ⟨79, _⟩ => ⟨S256x128x4x32, .f32⟩
  | .hbm, ⟨80, _⟩ => ⟨S256x128x4x32, .f32⟩
  | .hbm, ⟨81, _⟩ => ⟨S1x1x4x1, .f32⟩
  | .hbm, ⟨82, _⟩ => ⟨S1x1x4x1, .f32⟩
  | .hbm, ⟨83, _⟩ => ⟨S256x128x4x32, .f32⟩
  | .hbm, ⟨84, _⟩ => ⟨S256x128x4x32, .f32⟩
  | .hbm, ⟨85, _⟩ => ⟨S_, .f32⟩
  | .hbm, ⟨86, _⟩ => ⟨S256x128x32, .f32⟩
  | .hbm, ⟨87, _⟩ => ⟨S256x128x4x32, .f32⟩
  | .hbm, ⟨88, _⟩ => ⟨S256x128x4x32, .f32⟩
  | .hbm, ⟨89, _⟩ => ⟨S_, .f32⟩
  | .hbm, ⟨90, _⟩ => ⟨S256x128x32, .f32⟩
  | .hbm, ⟨91, _⟩ => ⟨S256x128x32, .f32⟩
  | .hbm, ⟨92, _⟩ => ⟨S_, .f32⟩
  | .hbm, ⟨93, _⟩ => ⟨S256x128x32, .f32⟩
  | .hbm, ⟨94, _⟩ => ⟨S256x128x32, .f32⟩
  | .hbm, ⟨95, _⟩ => ⟨S_, .f32⟩
  | .hbm, ⟨96, _⟩ => ⟨S256x128x32, .f32⟩
  | .hbm, ⟨97, _⟩ => ⟨S256x128x32, .f32⟩
  | .hbm, ⟨98, _⟩ => ⟨S_, .f32⟩
  | .hbm, ⟨99, _⟩ => ⟨S256x128x32, .f32⟩
  | .hbm, ⟨100, _⟩ => ⟨S256x128x32, .f32⟩
  | .hbm, ⟨101, _⟩ => ⟨S_, .f32⟩
  | .hbm, ⟨102, _⟩ => ⟨S256x128x32, .f32⟩
  | .hbm, ⟨103, _⟩ => ⟨S256x128x32, .i1⟩
  | .hbm, ⟨104, _⟩ => ⟨S_, .f32⟩
  | .hbm, ⟨105, _⟩ => ⟨S256x128x32, .f32⟩
  | .hbm, ⟨106, _⟩ => ⟨S256x128x32, .i1⟩
  | .hbm, ⟨107, _⟩ => ⟨S256x128x32, .i1⟩
  | .hbm, ⟨108, _⟩ => ⟨S_, .f32⟩
  | .hbm, ⟨109, _⟩ => ⟨S256x128x32, .f32⟩
  | .hbm, ⟨110, _⟩ => ⟨S256x128x32, .f32⟩
  | .hbm, ⟨111, _⟩ => ⟨S256x128x32, .f32⟩
  | .hbm, ⟨112, _⟩ => ⟨S256x128x32, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_cst_2 : Ref sig .tc := ⟨.hbm, 7, rfl⟩
abbrev main_cst_3 : Ref sig .tc := ⟨.hbm, 8, rfl⟩
abbrev main_cst_4 : Ref sig .tc := ⟨.hbm, 9, rfl⟩
abbrev main_cst_5 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst_6 : Ref sig .tc := ⟨.hbm, 19, rfl⟩
abbrev main_v3 : Ref sig .tc := ⟨.hbm, 20, rfl⟩
abbrev main_v4 : Ref sig .tc := ⟨.hbm, 21, rfl⟩
abbrev main_cst_7 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_8 : Ref sig .tc := ⟨.hbm, 31, rfl⟩
abbrev main_v13 : Ref sig .tc := ⟨.hbm, 32, rfl⟩
abbrev main_v14 : Ref sig .tc := ⟨.hbm, 33, rfl⟩
abbrev main_c_9 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call1_cst : Ref sig .tc := ⟨.hbm, 40, rfl⟩
abbrev main_call1_v0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_10 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_11 : Ref sig .tc := ⟨.hbm, 51, rfl⟩
abbrev main_v28 : Ref sig .tc := ⟨.hbm, 52, rfl⟩
abbrev main_v29 : Ref sig .tc := ⟨.hbm, 53, rfl⟩
abbrev main_c_12 : Ref sig .tc := ⟨.hbm, 54, rfl⟩
abbrev main_v30 : Ref sig .tc := ⟨.hbm, 55, rfl⟩
abbrev main_v31 : Ref sig .tc := ⟨.hbm, 56, rfl⟩
abbrev main_c_13 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call2_cst : Ref sig .tc := ⟨.hbm, 63, rfl⟩
abbrev main_call2_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_14 : Ref sig .tc := ⟨.hbm, 69, rfl⟩
abbrev main_v41 : Ref sig .tc := ⟨.hbm, 70, rfl⟩
abbrev main_v42 : Ref sig .tc := ⟨.hbm, 71, rfl⟩
abbrev main_c_15 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_16 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_17 : Ref sig .tc := ⟨.hbm, 89, rfl⟩
abbrev main_v58 : Ref sig .tc := ⟨.hbm, 90, rfl⟩
abbrev main_v59 : Ref sig .tc := ⟨.hbm, 91, rfl⟩
abbrev main_call3_cst : Ref sig .tc := ⟨.hbm, 92, rfl⟩
abbrev main_call3_v0 : Ref sig .tc := ⟨.hbm, 93, rfl⟩
abbrev main_v60 : Ref sig .tc := ⟨.hbm, 94, rfl⟩
abbrev main_cst_18 : Ref sig .tc := ⟨.hbm, 95, rfl⟩
abbrev main_v61 : Ref sig .tc := ⟨.hbm, 96, rfl⟩
abbrev main_v62 : Ref sig .tc := ⟨.hbm, 97, rfl⟩
abbrev main_cst_19 : Ref sig .tc := ⟨.hbm, 98, rfl⟩
abbrev main_v63 : Ref sig .tc := ⟨.hbm, 99, rfl⟩
abbrev main_v64 : Ref sig .tc := ⟨.hbm, 100, rfl⟩
abbrev main_cst_20 : Ref sig .tc := ⟨.hbm, 101, rfl⟩
abbrev main_v65 : Ref sig .tc := ⟨.hbm, 102, rfl⟩
abbrev main_v66 : Ref sig .tc := ⟨.hbm, 103, rfl⟩
abbrev main_cst_21 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_22 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩

abbrev nD : Nat := 1
abbrev τ : Topo := Topo.v7x

variable {F : FTy → Type} [FloatOps F]
-- ==== Proof.Row.lean ====
/-
  What the kernel's body computes of ONE feature row, as a chain of vector operations (`stored`), and that each of the
  body's eight stores holds this chain at its own row of the input block.
-/
module

public import proofs.«01_k».proof.Proof.Gen.KernelIdeal.Value

@[expose] public section

noncomputable section

namespace Cert.KernelIdeal.Row

open Cert.KernelIdeal Cert.KernelIdeal.Gen Idealize.ShloMosaic

variable {F : FTy → Type} [FloatOps F]

/-- A row of one feature, one entry per token, clipped to the open unit interval. -/
def clipped (x : FVec F S1x2048 .f32) : FVec F S1x2048 .f32 :=
  minimumf (broadcast S1x2048 (Scalar.ofBits .f32 0x3F7FFFFE#32))
    (maximumf (broadcast S1x2048 (Scalar.ofBits .f32 0x33D6BF95#32)) (shapeCast S1x2048 x shapeCasts_S1x2048_S1x2048))

/-- A row of one entry per token, given to each of the 32 units. -/
def overUnits (l : FVec F S1x2048 .f32) : FVec F S32x2048 .f32 :=
  broadcastTo S32x2048 (shapeCast S1x2048 l shapeCasts_S1x2048_S1x2048) broadcasts_S1x2048_S32x2048

/-- Four groups of 32 rows: the logarithm of the clipped row, that of its complement, and both again. -/
def logs (x : FVec F S1x2048 .f32) : FVec F S128x2048 .f32 :=
  concatenate S128x2048 0
    [⟨S32x2048, overUnits (log (clipped x))⟩,
     ⟨S32x2048, overUnits (log (subf (broadcast S1x2048 (Scalar.ofBits .f32 0x3F800000#32)) (clipped x)))⟩,
     ⟨S32x2048, overUnits (log (clipped x))⟩,
     ⟨S32x2048, overUnits (log (subf (broadcast S1x2048 (Scalar.ofBits .f32 0x3F800000#32)) (clipped x)))⟩]
    concatenates_S32x2048_S32x2048_S32x2048_S32x2048_S128x2048_d0

/-- The powers of the row, summed over each segment's tokens by the product with the one-hot matrix, kept above the small
    constant, raised to the outer exponents and weighted: 128 rows (four groups of 32 units) by 256 segments. -/
def terms (p q w : FVec F S128x1 .f32) (hot : FVec F S2048x256 .f32) (x : FVec F S1x2048 .f32) : FVec F S128x256 .f32 :=
  mulf (exp (mulf (broadcastTo S128x256 q broadcasts_S128x1_S128x256)
      (log (maximumf
        (matmul dot_S128x2048_S2048x256_S128x256_1_0_0_1_n_n none
          (exp (mulf (broadcastTo S128x2048 p broadcasts_S128x1_S128x2048) (logs x))) hot (constant S128x256 .f32 0x00000000#32))
        (broadcast S128x256 (Scalar.ofBits .f32 0x33D6BF95#32))))))
    (broadcastTo S128x256 w broadcasts_S128x1_S128x256)

/-- The denominator kept away from zero: where it lies within the small constant of zero, that constant with a sign. -/
def guarded (d : FVec F S32x256 .f32) : FVec F S32x256 .f32 :=
  select (andi (cmpf .olt d (broadcast S32x256 (Scalar.ofBits .f32 0x33D6BF95#32)))
      (cmpf .ogt d (broadcast S32x256 (Scalar.ofBits .f32 0xB3D6BF95#32))))
    (mulf (subf (mulf (broadcast S32x256 (Scalar.ofBits .f32 0x40000000#32))
        (maximumf
          (select (cmpf .ogt (absf d) (broadcast S32x256 (Scalar.ofBits .f32 0x00000000#32)))
            (select (cmpf .olt d (constant S32x256 .f32 0x00000000#32)) (constant S32x256 .f32 0xBF800000#32)
              (constant S32x256 .f32 0x3F800000#32)) d)
          (broadcast S32x256 (Scalar.ofBits .f32 0x00000000#32))))
        (broadcast S32x256 (Scalar.ofBits .f32 0x3F800000#32)))
      (broadcast S32x256 (Scalar.ofBits .f32 0x33D6BF95#32)))
    d

/-- The quotient of the sum of the first two groups by the guarded sum of the last two. -/
def ratio (t : FVec F S128x256 .f32) : FVec F S32x256 .f32 :=
  divf
    (addf (extractStridedSlice S32x256 ![0, 0] t slices_S128x256_o0_0_S32x256)
      (extractStridedSlice S32x256 ![32, 0] t slices_S128x256_o32_0_S32x256))
    (guarded (addf (extractStridedSlice S32x256 ![64, 0] t slices_S128x256_o64_0_S32x256)
      (extractStridedSlice S32x256 ![96, 0] t slices_S128x256_o96_0_S32x256)))

/-- What is stored of one feature: segments by units. -/
def stored (p q w : FVec F S128x1 .f32) (hot : FVec F S2048x256 .f32) (x : FVec F S1x2048 .f32) : FVec F S256x1x32 .f32 :=
  shapeCast S256x1x32
    (transpose S256x32 [1, 0] (ratio (terms p q w hot x)) transposes_S32x256_p1_0_S256x32) shapeCasts_S256x32_S256x1x32

/-- The block a grid point leaves, from the three blocks it reads: eight stores of `stored`, one per feature row. -/
theorem out_eq (x0 : Vec F S8x2048 .f32) (x1 : Vec F S1x2048 .i32) (x2 : Vec F S12x32 .f32) :
    out0_3 x0 x1 x2 =
      View.canon
        [⟨r0_28, stored (k0_pay39 x0 x1 x2) (k0_pay40 x0 x1 x2) (k0_pay41 x0 x1 x2) (k0_pay42 x0 x1 x2) (View.ld x0 r0_27)⟩,
         ⟨r0_26, stored (k0_pay39 x0 x1 x2) (k0_pay40 x0 x1 x2) (k0_pay41 x0 x1 x2) (k0_pay42 x0 x1 x2) (View.ld x0 r0_25)⟩,
         ⟨r0_24, stored (k0_pay39 x0 x1 x2) (k0_pay40 x0 x1 x2) (k0_pay41 x0 x1 x2) (k0_pay42 x0 x1 x2) (View.ld x0 r0_23)⟩,
         ⟨r0_22, stored (k0_pay39 x0 x1 x2) (k0_pay40 x0 x1 x2) (k0_pay41 x0 x1 x2) (k0_pay42 x0 x1 x2) (View.ld x0 r0_21)⟩,
         ⟨r0_20, stored (k0_pay39 x0 x1 x2) (k0_pay40 x0 x1 x2) (k0_pay41 x0 x1 x2) (k0_pay42 x0 x1 x2) (View.ld x0 r0_19)⟩,
         ⟨r0_18, stored (k0_pay39 x0 x1 x2) (k0_pay40 x0 x1 x2) (k0_pay41 x0 x1 x2) (k0_pay42 x0 x1 x2) (View.ld x0 r0_17)⟩,
         ⟨r0_16, stored (k0_pay39 x0 x1 x2) (k0_pay40 x0 x1 x2) (k0_pay41 x0 x1 x2) (k0_pay42 x0 x1 x2) (View.ld x0 r0_15)⟩,
         ⟨r0_14, stored (k0_pay39 x0 x1 x2) (k0_pay40 x0 x1 x2) (k0_pay41 x0 x1 x2) (k0_pay42 x0 x1 x2) (View.ld x0 r0_13)⟩] := rfl

end Cert.KernelIdeal.Row

end
-- ==== Proof.Scalar.lean ====
/-
  The function of one feature, one segment and one unit, over extended reals (`value`), and the two facts by which the kernel's
  spelling meets it: a power spelt as an exponential of a product with a logarithm, and the sum over a segment's tokens spelt
  as a product with zeros and ones.
-/
module

public import Idealize.ShloMosaic.Lib.Pointwise

@[expose] public section

noncomputable section

namespace Cert.Spec

open Idealize.ShloMosaic
open scoped BigOperators

/-- The small constant (about `1e-7`). -/
def eps : EReal := Ideal.ofBits .f32 0x33D6BF95#32

/-- The constant just below one. -/
def top : EReal := Ideal.ofBits .f32 0x3F7FFFFE#32

/-- A feature clipped to `[eps, top]`. -/
def clip (x : EReal) : EReal := min top (max eps x)

/-- The base of a power: the clipped feature in the groups 0 and 2, its complement in the groups 1 and 3. -/
def base (g : Fin 4) (x : EReal) : EReal := if g.val % 2 = 0 then clip x else 1 - clip x

/-- One group's weighted power of the sum, over the tokens of segment `s`, of the powers of the bases. -/
def term (g : Fin 4) (x : Fin 2048 → EReal) (seg : Fin 2048 → BitVec 32) (s : Fin 256) (p q w : EReal) : EReal :=
  Ideal.pow (max (∑ k with (seg k).toInt = (s.val : Int), Ideal.pow (base g (x k)) (max p 0)) eps) (max q 0) * w

/-- The denominator kept away from zero. -/
def guardOf (d : EReal) : EReal :=
  Scalar.select (Ideal.cmp .olt d eps &&& Ideal.cmp .ogt d (Ideal.ofBits .f32 0xB3D6BF95#32))
    ((Ideal.ofBits .f32 0x40000000#32 * max (Ideal.sign d) 0 - 1) * eps) d

/-- The value of one feature at one segment and one unit, whose twelve parameters are the column `par`: the even rows
    below 8 the outer exponents, the odd ones the inner exponents, the last four the weights. -/
def value (x : Fin 2048 → EReal) (seg : Fin 2048 → BitVec 32) (s : Fin 256) (par : Fin 12 → EReal) : EReal :=
  Ideal.div (term 0 x seg s (par 1) (par 0) (par 8) + term 1 x seg s (par 3) (par 2) (par 9))
    (guardOf (term 2 x seg s (par 5) (par 4) (par 10) + term 3 x seg s (par 7) (par 6) (par 11)))

/-- The whole result, at a segment, a feature and a unit, from the three arguments. -/
def whole (a0 : (⟨2, ![2048, 128]⟩ : Shape).Idx → EReal) (a1 : (⟨1, ![2048]⟩ : Shape).Idx → BitVec 32)
    (a2 : (⟨2, ![12, 32]⟩ : Shape).Idx → EReal) : (⟨3, ![256, 128, 32]⟩ : Shape).Idx → EReal :=
  fun i => value (fun k => a0 (ix2 k (i 1))) (fun k => a1 (ix1 k)) (i 0) (fun r => a2 (ix2 r (i 2)))

/-! ### The constants -/

/-- The small constant as a real number. -/
theorem eps_eq : eps = ((14073749 * (2 : ℝ) ^ (-47 : ℤ) : ℝ) : EReal) := by
  unfold eps
  simp [Ideal.ofBits, Ideal.ieee, -EReal.coe_mul]

/-- The constant just below one as a real number. -/
theorem top_eq : top = ((16777214 * (2 : ℝ) ^ (-24 : ℤ) : ℝ) : EReal) := by
  unfold top
  simp [Ideal.ofBits, Ideal.ieee, -EReal.coe_mul]

theorem eps_pos : 0 < eps := by rw [eps_eq]; exact_mod_cast (by positivity)

theorem eps_lt_top : eps < ⊤ := by rw [eps_eq]; exact EReal.coe_lt_top _

/-! ### The clipped feature and its complement -/

/-- Whatever the feature, infinities included, its clipped value is a real number strictly between 0 and 1. -/
theorem clip_real (x : EReal) : ∃ r : ℝ, clip x = (r : EReal) ∧ 0 < r ∧ r < 1 := by
  have h1 : top < 1 := by rw [top_eq]; exact_mod_cast (by norm_num)
  have h0 : 0 < top := by rw [top_eq]; exact_mod_cast (by norm_num)
  have hlo : 0 < clip x := lt_min h0 (eps_pos.trans_le (le_max_left _ _))
  have hhi : clip x < 1 := (min_le_left _ _).trans_lt h1
  generalize clip x = y at hlo hhi
  induction y using EReal.rec with
  | bot => exact absurd hlo (not_lt.mpr bot_le)
  | top => exact absurd hhi (not_lt.mpr le_top)
  | coe r => exact ⟨r, rfl, by exact_mod_cast hlo, by exact_mod_cast hhi⟩

/-- So are the bases of the powers. -/
theorem base_real (g : Fin 4) (x : EReal) : ∃ r : ℝ, base g x = (r : EReal) ∧ 0 < r ∧ r < 1 := by
  obtain ⟨r, h, h0, h1⟩ := clip_real x
  unfold base
  split
  · exact ⟨r, h, h0, h1⟩
  · exact ⟨1 - r, by rw [h]; rfl, by linarith, by linarith⟩

/-! ### A power as an exponential -/

/-- For a positive real base and an exponent that is not negative, `⊤` included, the exponential of the exponent times the
    base's logarithm is the power. -/
theorem exp_mul_log (r : ℝ) (hr : 0 < r) (p : EReal) (hp : 0 ≤ p) :
    Ideal.exp (p * Ideal.log (r : EReal)) = Ideal.pow (r : EReal) p := by
  have hlog : Ideal.log (r : EReal) = ((Real.log r : ℝ) : EReal) := if_neg (not_le.mpr hr)
  rw [hlog]
  induction p using EReal.rec with
  | bot => exact absurd hp (by simp)
  | coe y =>
    rw [← EReal.coe_mul]
    show ((Real.exp (y * Real.log r) : ℝ) : EReal) = ((r ^ y : ℝ) : EReal)
    rw [Real.rpow_def_of_pos hr, mul_comm]
  | top =>
    show _ = if r < 0 then (⊥ : EReal) else if 1 < r then ⊤ else if r = 1 then 1 else 0
    rw [if_neg hr.not_gt]
    rcases lt_trichotomy r 1 with h | h | h
    · rw [if_neg h.not_gt, if_neg h.ne, EReal.top_mul_coe_of_neg (Real.log_neg hr h)]; rfl
    · subst h
      rw [if_neg (lt_irrefl _), if_pos rfl, Real.log_one]
      show Ideal.exp (⊤ * ((0 : ℝ) : EReal)) = 1
      rw [EReal.coe_zero, mul_zero, ← EReal.coe_zero]
      show ((Real.exp 0 : ℝ) : EReal) = 1
      rw [Real.exp_zero]; rfl
    · rw [if_pos h, EReal.top_mul_coe_of_pos (Real.log_pos h)]; rfl

/-- A base strictly between 0 and 1 to an exponent that is not negative, `⊤` included, is a real number. -/
theorem pow_real (r : ℝ) (hr : 0 < r) (h1 : r < 1) (p : EReal) (hp : 0 ≤ p) :
    ∃ t : ℝ, Ideal.pow (r : EReal) p = (t : EReal) := by
  induction p using EReal.rec with
  | bot => exact absurd hp (by simp)
  | coe y => exact ⟨r ^ y, rfl⟩
  | top =>
    refine ⟨0, ?_⟩
    show (if r < 0 then (⊥ : EReal) else if 1 < r then ⊤ else if r = 1 then 1 else 0) = _
    rw [if_neg hr.not_gt, if_neg h1.not_gt, if_neg h1.ne]; rfl

/-- The inner power, as the kernel spells it. -/
theorem inner_pow (g : Fin 4) (x p : EReal) :
    Ideal.exp (max p 0 * Ideal.log (base g x)) = Ideal.pow (base g x) (max p 0) := by
  obtain ⟨r, h, h0, _⟩ := base_real g x
  rw [h]; exact exp_mul_log r h0 _ (le_max_right _ _)

/-- A finite sum of real numbers is a real number. -/
theorem sum_real {ι : Type} (S : Finset ι) (f : ι → EReal) (hf : ∀ k, ∃ t : ℝ, f k = (t : EReal)) :
    ∃ t : ℝ, ∑ k ∈ S, f k = (t : EReal) := by
  choose t ht using hf
  refine ⟨∑ k ∈ S, t k, ?_⟩
  rw [Finset.sum_congr rfl fun k _ => ht k]
  induction S using Finset.cons_induction with
  | empty => simp
  | cons a S ha ih => rw [Finset.sum_cons, Finset.sum_cons, ih, EReal.coe_add]

/-- The outer power, as the kernel spells it. -/
theorem outer_pow (a q : EReal) (ha : ∃ t : ℝ, a = (t : EReal)) :
    Ideal.exp (max q 0 * Ideal.log (max a eps)) = Ideal.pow (max a eps) (max q 0) := by
  obtain ⟨t, rfl⟩ := ha
  have hpos : 0 < max (t : EReal) eps := eps_pos.trans_le (le_max_right _ _)
  have hfin : max (t : EReal) eps < ⊤ := max_lt (EReal.coe_lt_top _) eps_lt_top
  generalize max (t : EReal) eps = y at hpos hfin
  induction y using EReal.rec with
  | bot => exact absurd hpos (not_lt.mpr bot_le)
  | top => exact absurd hfin (lt_irrefl _)
  | coe r => exact exp_mul_log r (by exact_mod_cast hpos) _ (le_max_right _ _)

/-! ### The sum over a segment's tokens -/

/-- A word is the number `s` of a segment as a word exactly when its signed reading is `s`. -/
theorem word_eq_iff (b : BitVec 32) (s : Fin 256) : b = BitVec.ofNat 32 s.val ↔ b.toInt = (s.val : Int) := by
  have h : (BitVec.ofNat 32 s.val).toInt = (s.val : Int) := by
    have := s.isLt
    rw [BitVec.toInt_eq_toNat_of_lt (by rw [BitVec.toNat_ofNat]; omega), BitVec.toNat_ofNat]; omega
  exact ⟨fun e => e ▸ h, fun e => BitVec.eq_of_toInt_eq (e.trans h.symm)⟩

/-- The sum over all tokens of the products with the one-hot entries is the sum over the segment's tokens. -/
theorem sum_hot (f : Fin 2048 → EReal) (seg : Fin 2048 → BitVec 32) (s : Fin 256) :
    ∑ k, f k * ((((BitVec.ofBool (decide (seg k = BitVec.ofNat 32 s.val))).setWidth 32).toInt : ℝ) : EReal)
      = ∑ k with (seg k).toInt = (s.val : Int), f k := by
  rw [Finset.sum_filter]
  refine Finset.sum_congr rfl fun k _ => ?_
  by_cases h : seg k = BitVec.ofNat 32 s.val
  · rw [if_pos ((word_eq_iff _ _).mp h), decide_eq_true h]; simp
  · rw [if_neg fun e => h ((word_eq_iff _ _).mpr e), decide_eq_false h]; simp

/-- One group's term, as the kernel spells it. -/
theorem term_eq (g : Fin 4) (x : Fin 2048 → EReal) (seg : Fin 2048 → BitVec 32) (s : Fin 256) (p q w : EReal) :
    Ideal.exp (max q 0 * Ideal.log (max (∑ k, Ideal.exp (max p 0 * Ideal.log (base g (x k)))
      * ((((BitVec.ofBool (decide (seg k = BitVec.ofNat 32 s.val))).setWidth 32).toInt : ℝ) : EReal)) eps)) * w
      = term g x seg s p q w := by
  rw [sum_hot, Finset.sum_congr rfl fun k _ => inner_pow g (x k) p]
  unfold term
  rw [outer_pow]
  refine sum_real _ _ fun k => ?_
  obtain ⟨r, h, h0, h1⟩ := base_real g (x k)
  rw [h]; exact pow_real r h0 h1 _ (le_max_right _ _)

end Cert.Spec

end
-- ==== Proof.Groups.lean ====
/-
  The layout of the kernel's values of 128 rows: four groups of 32 units, put together by a concatenation.
-/
module

public import proofs.«01_k».proof.Proof.Row
public import proofs.«01_k».proof.Proof.Scalar

@[expose] public section

noncomputable section

namespace Cert.KernelIdeal.Row

open Cert.KernelIdeal Cert.KernelIdeal.Gen Idealize.ShloMosaic

/-- The row of unit `u` in group `g`. -/
def row (g : Fin 4) (u : Fin 32) : Fin 128 := ⟨32 * g.val + u.val, by omega⟩

/-- Four pieces of 32 rows put together, read at the row of unit `u` in group `g`, are piece `g` at row `u`. -/
theorem concat_row {n : Nat} {α : Type} (y : Fin 4 → (⟨2, ![32, n]⟩ : Shape).Idx → α)
    (h : Shape.Concatenates [⟨2, ![32, n]⟩, ⟨2, ![32, n]⟩, ⟨2, ![32, n]⟩, ⟨2, ![32, n]⟩] ⟨2, ![128, n]⟩ 0)
    (g : Fin 4) (u : Fin 32) (l : Fin n) :
    concatenate ⟨2, ![128, n]⟩ 0
      [⟨⟨2, ![32, n]⟩, y 0⟩, ⟨⟨2, ![32, n]⟩, y 1⟩, ⟨⟨2, ![32, n]⟩, y 2⟩, ⟨⟨2, ![32, n]⟩, y 3⟩] h (ix2 (row g u) l)
      = y g (ix2 u l) := by
  have hu := u.isLt
  pointwise
  simp only [row]
  fin_cases g <;> simp only [Fin.zero_eta, Fin.mk_one, Fin.reduceFinMk, Fin.isValue, Fin.val_zero, Fin.val_one, Fin.val_two,
    Fin.coe_ofNat_eq_mod, Nat.reduceMod, Nat.reduceMul] <;> split_ifs <;>
    first
    | (exfalso; omega)
    | (refine congrArg _ (funext fun a => Fin.ext ?_)
       match a with
       | ⟨0, _⟩ => rw [Shape.Idx.norm_def]; simp; try omega
       | ⟨1, _⟩ => rfl)

end Cert.KernelIdeal.Row

end
-- ==== Proof.Read.lean ====
/-
  The kernel's values of one feature row, read at an index.
-/
module

public import proofs.«01_k».proof.Proof.Groups

@[expose] public section

noncomputable section

namespace Cert.KernelIdeal.Row

open Cert.KernelIdeal Cert.KernelIdeal.Gen Idealize.ShloMosaic Cert.Spec
open scoped BigOperators

/-- The clipped row at a token. -/
theorem clipped_apply (x : FVec Ideal S1x2048 .f32) (k : Fin 2048) : clipped x (ix2 0 k) = clip (x (ix2 0 k)) := by
  unfold clipped
  rw [shapeCast_self]
  rfl

/-- A row given to each unit, at a unit and a token. -/
theorem overUnits_apply (l : FVec Ideal S1x2048 .f32) (u : Fin 32) (k : Fin 2048) : overUnits l (ix2 u k) = l (ix2 0 k) := by
  unfold overUnits
  rw [shapeCast_self]
  pointwise

/-- The logarithms at a row and a token: the logarithm of the row's group's base. -/
theorem logs_apply (x : FVec Ideal S1x2048 .f32) (g : Fin 4) (u : Fin 32) (k : Fin 2048) :
    logs x (ix2 (row g u) k) = Ideal.log (base g (x (ix2 0 k))) := by
  have hs : ∀ h : Fin 4, overUnits (if h.val % 2 = 0 then log (clipped x)
      else log (subf (broadcast S1x2048 (Scalar.ofBits .f32 0x3F800000#32)) (clipped x))) (ix2 u k)
      = Ideal.log (base h (x (ix2 0 k))) := by
    intro h
    rw [overUnits_apply]
    unfold base
    split
    · exact congrArg Ideal.log (clipped_apply x k)
    · refine congrArg Ideal.log ?_
      show Ideal.ofBits .f32 0x3F800000#32 - clipped x (ix2 0 k) = _
      rw [clipped_apply, Ideal.ofBits_one_f32]
  rw [← hs g]
  exact concat_row (fun h : Fin 4 => overUnits (if h.val % 2 = 0 then log (clipped x)
      else log (subf (broadcast S1x2048 (Scalar.ofBits .f32 0x3F800000#32)) (clipped x)))) _ g u k

/-- The terms at a row and a segment. -/
theorem terms_apply (p q w : FVec Ideal S128x1 .f32) (hot : FVec Ideal S2048x256 .f32) (x : FVec Ideal S1x2048 .f32)
    (g : Fin 4) (u : Fin 32) (s : Fin 256) :
    terms p q w hot x (ix2 (row g u) s)
      = Ideal.exp (q (ix2 (row g u) 0) * Ideal.log (max (∑ k : Fin 2048,
          Ideal.exp (p (ix2 (row g u) 0) * Ideal.log (base g (x (ix2 0 k)))) * hot (ix2 k s)) eps)) * w (ix2 (row g u) 0) := by
  unfold terms
  pointwise [dot_S128x2048_S2048x256_S128x256_1_0_0_1_n_n, logs_apply]
  rfl

/-- The guarded denominator at an index. -/
theorem guarded_apply (d : FVec Ideal S32x256 .f32) (j : S32x256.Idx) : guarded d j = guardOf (d j) := by
  unfold guarded guardOf eps
  rw [← Ideal.jnp_sign_eq_sign_f32]
  show _ = Scalar.select _ _ _
  rw [← Ideal.ofBits_zero_f32, ← Ideal.ofBits_one_f32]
  rfl

/-- The quotient at a unit and a segment. -/
theorem ratio_apply (t : FVec Ideal S128x256 .f32) (u : Fin 32) (s : Fin 256) :
    ratio t (ix2 u s) = Ideal.div (t (ix2 (row 0 u) s) + t (ix2 (row 1 u) s))
      (guardOf (t (ix2 (row 2 u) s) + t (ix2 (row 3 u) s))) := by
  unfold ratio
  pointwise [guarded_apply, row]

/-- What is stored of one feature, at a segment and a unit. -/
theorem stored_apply (p q w : FVec Ideal S128x1 .f32) (hot : FVec Ideal S2048x256 .f32) (x : FVec Ideal S1x2048 .f32)
    (s : Fin 256) (z : Fin 1) (u : Fin 32) :
    stored p q w hot x (ix3 s z u) = ratio (terms p q w hot x) (ix2 u s) := by
  unfold stored
  pointwise

end Cert.KernelIdeal.Row

end
-- ==== Proof.Block.lean ====
/-
  What one grid point leaves in the output block, read at a segment, a feature of the block and a unit: `Cert.Spec.value` of the
  block's feature row, the segment words and the unit's column of parameters.
-/
module

public import proofs.«01_k».proof.Proof.Read

@[expose] public section

noncomputable section

namespace Cert.KernelIdeal.Row

open Cert.KernelIdeal Cert.KernelIdeal.Gen Idealize.ShloMosaic Cert.Spec
open scoped BigOperators

/-- A row of the parameters lies inside them. -/
theorem row_inb (r : Fin 12) : ∀ a, (![r.val, 0] : Fin 2 → Nat) a + S1x32.size a ≤ S12x32.size a := fun a =>
  match a with
  | ⟨0, _⟩ => r.isLt
  | ⟨1, _⟩ => le_refl 32

/-- Row `r` of the parameters, as the body loads it. -/
def paramRow (x2 : Vec Ideal S12x32 .f32) (r : Fin 12) : FVec Ideal S1x32 .f32 :=
  View.ld x2 (Rect.unit (s := S12x32) ![r.val, 0] S1x32.size (row_inb r))

/-- It laid as a column. -/
def column (x2 : Vec Ideal S12x32 .f32) (r : Fin 12) : FVec Ideal S32x1 .f32 :=
  transpose S32x1 [1, 0] (paramRow x2 r) transposes_S1x32_p1_0_S32x1

/-- The column at a unit. -/
theorem column_apply (x2 : Vec Ideal S12x32 .f32) (r : Fin 12) (u : Fin 32) : column x2 r (ix2 u 0) = x2 (ix2 r u) := by
  unfold column paramRow
  pointwise

/-- The inner exponents: the odd rows below 8, kept from below by zero. -/
theorem inner_apply (x0 : Vec Ideal S8x2048 .f32) (x1 : Vec Ideal S1x2048 .i32) (x2 : Vec Ideal S12x32 .f32) (g : Fin 4)
    (u : Fin 32) : k0_pay39 x0 x1 x2 (ix2 (row g u) 0) = max (x2 (ix2 ⟨2 * g.val + 1, by omega⟩ u)) 0 := by
  rw [← column_apply x2, ← Ideal.ofBits_zero_f32]
  exact concat_row (fun h : Fin 4 => maximumf (column x2 ⟨2 * h.val + 1, by omega⟩)
    (broadcast S32x1 (Scalar.ofBits .f32 0x00000000#32))) concatenates_S32x1_S32x1_S32x1_S32x1_S128x1_d0 g u 0

/-- The outer exponents: the even rows below 8, kept from below by zero. -/
theorem outer_apply (x0 : Vec Ideal S8x2048 .f32) (x1 : Vec Ideal S1x2048 .i32) (x2 : Vec Ideal S12x32 .f32) (g : Fin 4)
    (u : Fin 32) : k0_pay40 x0 x1 x2 (ix2 (row g u) 0) = max (x2 (ix2 ⟨2 * g.val, by omega⟩ u)) 0 := by
  rw [← column_apply x2, ← Ideal.ofBits_zero_f32]
  exact concat_row (fun h : Fin 4 => maximumf (column x2 ⟨2 * h.val, by omega⟩)
    (broadcast S32x1 (Scalar.ofBits .f32 0x00000000#32))) concatenates_S32x1_S32x1_S32x1_S32x1_S128x1_d0 g u 0

/-- The weights: the last four rows. -/
theorem weight_apply (x0 : Vec Ideal S8x2048 .f32) (x1 : Vec Ideal S1x2048 .i32) (x2 : Vec Ideal S12x32 .f32) (g : Fin 4)
    (u : Fin 32) : k0_pay41 x0 x1 x2 (ix2 (row g u) 0) = x2 (ix2 ⟨8 + g.val, by omega⟩ u) := by
  rw [← column_apply x2]
  exact concat_row (fun h : Fin 4 => column x2 ⟨8 + h.val, by omega⟩)
    concatenates_S32x1_S32x1_S32x1_S32x1_S128x1_d0 g u 0

/-- The one-hot matrix at a token and a segment. -/
theorem hot_apply (x0 : Vec Ideal S8x2048 .f32) (x1 : Vec Ideal S1x2048 .i32) (x2 : Vec Ideal S12x32 .f32) (k : Fin 2048)
    (s : Fin 256) : k0_pay42 x0 x1 x2 (ix2 k s)
      = ((((BitVec.ofBool (decide (x1 (ix2 0 k) = BitVec.ofNat 32 s.val))).setWidth 32).toInt : ℝ) : EReal) := by
  unfold k0_pay42 k0_pay5
  rw [View.ld_unit_zero (by funext a; fin_cases a <;> rfl), shapeCast_self]
  pointwise
  rfl

/-- One feature's store at a segment and a unit, from the feature's row. -/
theorem stored_value (x0 : Vec Ideal S8x2048 .f32) (x1 : Vec Ideal S1x2048 .i32) (x2 : Vec Ideal S12x32 .f32)
    (x : FVec Ideal S1x2048 .f32) (s : Fin 256) (z : Fin 1) (u : Fin 32) :
    stored (k0_pay39 x0 x1 x2) (k0_pay40 x0 x1 x2) (k0_pay41 x0 x1 x2) (k0_pay42 x0 x1 x2) x (ix3 s z u)
      = value (fun k => x (ix2 0 k)) (fun k => x1 (ix2 0 k)) s (fun r => x2 (ix2 r u)) := by
  have ht : ∀ g : Fin 4, terms (k0_pay39 x0 x1 x2) (k0_pay40 x0 x1 x2) (k0_pay41 x0 x1 x2) (k0_pay42 x0 x1 x2) x
      (ix2 (row g u) s) = term g (fun k => x (ix2 0 k)) (fun k => x1 (ix2 0 k)) s (x2 (ix2 ⟨2 * g.val + 1, by omega⟩ u))
        (x2 (ix2 ⟨2 * g.val, by omega⟩ u)) (x2 (ix2 ⟨8 + g.val, by omega⟩ u)) := by
    intro g
    rw [terms_apply, ← term_eq, inner_apply, outer_apply, weight_apply]
    simp only [hot_apply]
  rw [stored_apply, ratio_apply, ht, ht, ht, ht]
  rfl

/-- The block at a segment, a feature and a unit. -/
def blockAt (x0 : Vec Ideal S8x2048 .f32) (x1 : Vec Ideal S1x2048 .i32) (x2 : Vec Ideal S12x32 .f32) :
    S256x8x32.Idx → EReal :=
  fun y => value (fun k => x0 (ix2 (y 1) k)) (fun k => x1 (ix2 0 k)) (y 0) (fun r => x2 (ix2 r (y 2)))

/-- A feature's row of the input block lies inside it. -/
theorem feature_inb (f : Fin 8) : ∀ a, (![f.val, 0] : Fin 2 → Nat) a + S1x2048.size a ≤ S8x2048.size a := fun a =>
  match a with
  | ⟨0, _⟩ => f.isLt
  | ⟨1, _⟩ => le_refl 2048

/-- A feature's column of the output block lies inside it. -/
theorem slab_inb (f : Fin 8) : ∀ a, (![0, f.val, 0] : Fin 3 → Nat) a + S256x1x32.size a ≤ S256x8x32.size a := fun a =>
  match a with
  | ⟨0, _⟩ => le_refl 256
  | ⟨1, _⟩ => f.isLt
  | ⟨2, _⟩ => le_refl 32

/-- A feature's row of the input block, as the body loads it. -/
def featureRow (x0 : Vec Ideal S8x2048 .f32) (f : Fin 8) : FVec Ideal S1x2048 .f32 :=
  View.ld x0 (Rect.unit (s := S8x2048) ![f.val, 0] S1x2048.size (feature_inb f))

/-- The row at a token. -/
theorem featureRow_apply (x0 : Vec Ideal S8x2048 .f32) (f : Fin 8) (k : Fin 2048) :
    featureRow x0 f (ix2 0 k) = x0 (ix2 f k) := by
  unfold featureRow
  pointwise

/-- Where a feature's store goes, at a segment and a unit. -/
theorem slab_emb (f : Fin 8) (s : Fin 256) (z : Fin 1) (u : Fin 32) :
    (Rect.unit (s := S256x8x32) ![0, f.val, 0] S256x1x32.size (slab_inb f)).emb (ix3 s z u) = ix3 s f u := by
  funext a
  apply Fin.ext
  match a with
  | ⟨0, _⟩ => show 0 + 1 * s.val = s.val; omega
  | ⟨1, _⟩ => show f.val + 1 * z.val = f.val; omega
  | ⟨2, _⟩ => show 0 + 1 * u.val = u.val; omega

/-- A feature's store is `blockAt` at the part of the block it goes to. -/
theorem piece_eq (x0 : Vec Ideal S8x2048 .f32) (x1 : Vec Ideal S1x2048 .i32) (x2 : Vec Ideal S12x32 .f32) (f : Fin 8)
    (x : S256x1x32.Idx) :
    stored (k0_pay39 x0 x1 x2) (k0_pay40 x0 x1 x2) (k0_pay41 x0 x1 x2) (k0_pay42 x0 x1 x2) (featureRow x0 f) x
      = blockAt x0 x1 x2 ((Rect.unit (s := S256x8x32) ![0, f.val, 0] S256x1x32.size (slab_inb f)).emb x) := by
  have h : ∀ (s : Fin 256) (z : Fin 1) (u : Fin 32),
      stored (k0_pay39 x0 x1 x2) (k0_pay40 x0 x1 x2) (k0_pay41 x0 x1 x2) (k0_pay42 x0 x1 x2) (featureRow x0 f) (ix3 s z u)
        = blockAt x0 x1 x2 ((Rect.unit (s := S256x8x32) ![0, f.val, 0] S256x1x32.size (slab_inb f)).emb (ix3 s z u)) := by
    intro s z u
    rw [stored_value, slab_emb]
    simp only [featureRow_apply]
    rfl
  have hx : x = ix3 (n0 := 256) (n1 := 1) (n2 := 32) (x 0) (x 1) (x 2) := by
    funext a
    match a with
    | ⟨0, _⟩ => rfl
    | ⟨1, _⟩ => rfl
    | ⟨2, _⟩ => rfl
  exact hx ▸ h (x 0) (x 1) (x 2)

/-- What a grid point leaves, at an index of the block. -/
theorem out_apply (x0 : Vec Ideal S8x2048 .f32) (x1 : Vec Ideal S1x2048 .i32) (x2 : Vec Ideal S12x32 .f32) (y : S256x8x32.Idx) :
    out0_3 x0 x1 x2 y = blockAt x0 x1 x2 y := by
  rw [out_eq]
  refine View.canon_apply_of_pieces (Val := Elt Ideal) (blockAt x0 x1 x2) _ ?_ y (cover0_3 _ _ _ _ _ _ _ _ y)
  simp only [List.forall_mem_cons]
  exact ⟨piece_eq x0 x1 x2 7, piece_eq x0 x1 x2 6, piece_eq x0 x1 x2 5, piece_eq x0 x1 x2 4, piece_eq x0 x1 x2 3,
    piece_eq x0 x1 x2 2, piece_eq x0 x1 x2 1, piece_eq x0 x1 x2 0, fun _ h => absurd h List.not_mem_nil⟩

end Cert.KernelIdeal.Row

end
-- ==== Proof.Array.lean ====
/-
  What the kernel's whole result holds after the run: `Cert.Spec.value` of each feature's column of the first argument, the segment
  words and each unit's column of parameters. The blocks of the sixteen grid points tile the result.
-/
module

public import proofs.«01_k».proof.Proof.Block
public import proofs.«01_k».proof.Proof.Gen.KernelIdeal.Value
public import Idealize.ShloMosaic.Lib.Pipeline.ValueKit.Geometry

@[expose] public section

noncomputable section

namespace Cert.KernelIdeal.Row

open Cert.KernelIdeal Cert.KernelIdeal.Gen Idealize.ShloMosaic Idealize.ShloMosaic.TcCoe Cert.Spec

/-- The first window's array when the kernel is entered: the first argument transposed. -/
theorem V_main_v0 (m : (ℓ : Loc nD τ sig) → Buf (Elt Ideal) ℓ) (c : Dev nD) :
    V m c main_v0 = transpose S128x2048 [1, 0] (m ((c : Thread nD τ).loc main_arg0) : S2048x128.Idx → EReal)
      transposes_S2048x128_S128x2048_1_0 := by
  show StableHlo.after hostOps0 _ (Proc.devRef .tc main_v0) = _
  after_results

/-- The second window's array: the segment words in one row. -/
theorem V_main_v1 (m : (ℓ : Loc nD τ sig) → Buf (Elt Ideal) ℓ) (c : Dev nD) :
    V m c main_v1 = shapeCast S1x2048 (m ((c : Thread nD τ).loc main_arg1) : S2048.Idx → BitVec 32)
      shapeCasts_S2048_S1x2048 := by
  show StableHlo.after hostOps0 _ (Proc.devRef .tc main_v1) = _
  after_results
  rfl

/-- It at a feature and a token. -/
theorem feature_apply (m : (ℓ : Loc nD τ sig) → Buf (Elt Ideal) ℓ) (c : Dev nD) (f : Fin 128) (k : Fin 2048) :
    V m c main_v0 (ix2 f k) = m ((c : Thread nD τ).loc main_arg0) (ix2 k f) := by
  rw [V_main_v0]
  pointwise

/-- A vector laid in one row. -/
theorem inRow_apply (x : S2048.Idx → BitVec 32) (k : Fin 2048) :
    shapeCast S1x2048 x shapeCasts_S2048_S1x2048 (ix2 0 k) = x (ix1 k) := by
  pointwise

/-- It at a token. -/
theorem segment_apply (m : (ℓ : Loc nD τ sig) → Buf (Elt Ideal) ℓ) (c : Dev nD) (k : Fin 2048) :
    V m c main_v1 (ix2 0 k) = m ((c : Thread nD τ).loc main_arg1) (ix1 k) := by
  rw [V_main_v1]
  exact inRow_apply _ k

/-- The feature block a grid point reads. -/
theorem index0 : ∀ t : Fin grid0.N, (win0_0.index t 0 = t.val) ∧ (win0_0.index t 1 = 0) := by decide +kernel

/-- The segment words are read whole. -/
theorem index1 : ∀ t : Fin grid0.N, (win0_1.index t 0 = 0) ∧ (win0_1.index t 1 = 0) := by decide +kernel

/-- The parameters are read whole. -/
theorem index2 : ∀ t : Fin grid0.N, (win0_2.index t 0 = 0) ∧ (win0_2.index t 1 = 0) := by decide +kernel

/-- The feature block a grid point writes. -/
theorem index3 : ∀ t : Fin grid0.N, (win0_3.index t 0 = 0) ∧ (win0_3.index t 1 = t.val) ∧ (win0_3.index t 2 = 0) := by
  decide +kernel

/-- The result array after the run. -/
theorem array_eq (m : (ℓ : Loc nD τ sig) → Buf (Elt Ideal) ℓ) (c : Dev nD) :
    (dats m 0 c).arrAt 3 cfg0.N = whole (m ((c : Thread nD τ).loc main_arg0)) (m ((c : Thread nD τ).loc main_arg1))
      (m ((c : Thread nD τ).loc main_arg2)) := by
  refine (dats m 0 c).arrAt_eq_of_covers 3 _ (by decide +kernel) fun t hf y => ?_
  obtain ⟨e00, e01⟩ := index0 t
  obtain ⟨e10, e11⟩ := index1 t
  obtain ⟨e20, e21⟩ := index2 t
  obtain ⟨e30, e31, e32⟩ := index3 t
  blk_simp
  rw [after0_3, out_apply]
  blk_simp [iblk, blockAt, whole]
  have h0 : ∀ k : Fin 2048, (win0_0.blk t).view.emb (ix2 (n0 := 8) (n1 := 2048) (y 1) k)
      = ix2 (n0 := 128) (n1 := 2048) ((win0_3.blk t).view.emb y 1) k := fun k => by blk_ext [e00, e01, e31]
  have h1 : ∀ k : Fin 2048, (win0_1.blk t).view.emb (ix2 (n0 := 1) (n1 := 2048) 0 k)
      = ix2 (n0 := 1) (n1 := 2048) 0 k := fun k => by blk_ext [e10, e11]
  have h2 : ∀ r : Fin 12, (win0_2.blk t).view.emb (ix2 (n0 := 12) (n1 := 32) r (y 2))
      = ix2 (n0 := 12) (n1 := 32) r ((win0_3.blk t).view.emb y 2) := fun r => by blk_ext [e20, e21, e32]
  have h3 : (win0_3.blk t).view.emb y 0 = y 0 := by
    apply Fin.ext
    blk_simp [e30]
  simp only [h0, h1, h2, h3]
  exact congr (congr (congrArg₂ value (funext fun k => feature_apply m c _ k) (funext fun k => segment_apply m c k)) rfl)
    (funext fun r => congrFun (V_main_arg2 m c) _)

end Cert.KernelIdeal.Row

end
-- ==== Proof.Formula.lean ====
/-
  The reference's result written by its parts: the bases, the parameter rows taken by a literal list, the sums over the tokens,
  the weighted powers, the two sums over the groups and the guarded quotient. Each part is the reference's own operations.
-/
module

public import proofs.«01_k».proof.Proof.Gen.ReferenceIdeal.Run
public import Idealize.ShloMosaic.Lib.Pointwise
public import Idealize.ShloMosaic.Lib.IdealHost
public import Idealize.ShloMosaic.Lib.Routing.OpsPair

@[expose] public section

noncomputable section

namespace Cert.ReferenceIdeal.Formula

open Cert.ReferenceIdeal Cert.ReferenceIdeal.Gen Idealize.ShloMosaic Idealize.ShloMosaic.TcCoe

/-- A literal list of four floats. -/
def floats (l : Fin 4 → BitVec 32) : FVec Ideal S4 .f32 := fun i => FloatOps.ofBits .f32 (l (S4.rowMajor i))

/-- A literal list of four words. -/
def words (l : Fin 4 → BitVec 32) : IVec S4 32 := fun i => l (S4.rowMajor i)

/-- The clipped features. -/
def clipped (a0 : FVec Ideal S2048x128 .f32) : FVec Ideal S2048x128 .f32 :=
  minimumf (broadcastInDim S2048x128 ![] bcast_S_S2048x128 (id (constant (F := Ideal) S_ .f32 0x3F7FFFFE#32)))
    (maximumf (broadcastInDim S2048x128 ![] bcast_S_S2048x128 (id (constant (F := Ideal) S_ .f32 0x33D6BF95#32))) a0)

/-- The bases, `(1 - e) / 2 + x * e` for the four signs `e`. -/
def bases (a0 : FVec Ideal S2048x128 .f32) : FVec Ideal S2048x128x4 .f32 :=
  addf (broadcastInDim S2048x128x4 ![0, 1, 2] bcast_S1x1x4_S2048x128x4_0_1_2
      (Host.divf (subf (broadcastInDim S1x1x4 ![] bcast_S_S1x1x4 (constant (F := Ideal) S_ .f32 0x3F800000#32))
          (shapeCast S1x1x4 (floats lit0) shapeCasts_S4_S1x1x4))
        (broadcastInDim S1x1x4 ![] bcast_S_S1x1x4 (constant (F := Ideal) S_ .f32 0x40000000#32))))
    (mulf (broadcastInDim S2048x128x4 ![0, 1, 2] bcast_S2048x128x1_S2048x128x4_0_1_2
        (broadcastInDim S2048x128x1 ![0, 1] bcast_S2048x128_S2048x128x1_0_1 (clipped a0)))
      (broadcastInDim S2048x128x4 ![0, 1, 2] bcast_S1x1x4_S2048x128x4_0_1_2
        (shapeCast S1x1x4 (floats lit0) shapeCasts_S4_S1x1x4)))

/-- Four rows of the parameters, taken by a literal list. -/
def rows (l : Fin 4 → BitVec 32) (a2 : FVec Ideal S12x32 .f32) : FVec Ideal S4x32 .f32 :=
  Host.gather gather_S12x32_S4x1_S4x32_1_0_n_n_0_1_132 a2 (broadcastInDim S4x1 ![0] bcast_S4_S4x1_0
    (select (cmpi .slt (words l) (broadcastInDim S4 ![] bcast_S_S4 (constantI S_ 32 0#32)))
      (addi (words l) (broadcastInDim S4 ![] bcast_S_S4 (constantI S_ 32 12#32))) (words l)))

/-- Exponents: four rows kept from below by zero. -/
def exponents (l : Fin 4 → BitVec 32) (a2 : FVec Ideal S12x32 .f32) : FVec Ideal S1x1x4x32 .f32 :=
  broadcastInDim S1x1x4x32 ![2, 3] bcast_S4x32_S1x1x4x32_2_3
    (maximumf (rows l a2) (broadcastInDim S4x32 ![] bcast_S_S4x32 (constant (F := Ideal) S_ .f32 0x00000000#32)))

/-- The powers of the bases, at every token. -/
def powers (a0 : FVec Ideal S2048x128 .f32) (a2 : FVec Ideal S12x32 .f32) : FVec Ideal S2048x128x4x32 .f32 :=
  Host.powf (broadcastInDim S2048x128x4x32 ![0, 1, 2, 3] bcast_S2048x128x4x1_S2048x128x4x32_0_1_2_3
      (broadcastInDim S2048x128x4x1 ![0, 1, 2] bcast_S2048x128x4_S2048x128x4x1_0_1_2 (bases a0)))
    (broadcastInDim S2048x128x4x32 ![0, 1, 2, 3] bcast_S1x1x4x32_S2048x128x4x32_0_1_2_3 (exponents lit1 a2))

/-- Rows added into their segments. -/
def segmentSum (a1 : IVec S2048 32) (u : FVec Ideal S2048x128x4x32 .f32) : FVec Ideal S256x128x4x32 .f32 :=
  Host.scatterAdd scatter_S256x128x4x32_S2048x1_S2048x128x4x32_123_0_0_1
    (broadcastInDim S256x128x4x32 ![] bcast_S_S256x128x4x32 (constant (F := Ideal) S_ .f32 0x00000000#32))
    (broadcastInDim S2048x1 ![0] bcast_S2048_S2048x1_0 a1) u

/-- The weighted powers of the sums. -/
def terms (a0 : FVec Ideal S2048x128 .f32) (a1 : IVec S2048 32) (a2 : FVec Ideal S12x32 .f32) :
    FVec Ideal S256x128x4x32 .f32 :=
  mulf (Host.powf (maximumf (segmentSum a1 (powers a0 a2))
        (broadcastInDim S256x128x4x32 ![] bcast_S_S256x128x4x32 (constant (F := Ideal) S_ .f32 0x33D6BF95#32)))
      (broadcastInDim S256x128x4x32 ![0, 1, 2, 3] bcast_S1x1x4x32_S256x128x4x32_0_1_2_3 (exponents lit2 a2)))
    (broadcastInDim S256x128x4x32 ![0, 1, 2, 3] bcast_S1x1x4x32_S256x128x4x32_0_1_2_3
      (shapeCast S1x1x4x32 (rows lit3 a2) shapeCasts_S4x32_S1x1x4x32))

/-- The sum over the four groups, each weighted by a literal list. -/
def overGroups (l : Fin 4 → BitVec 32) (t : FVec Ideal S256x128x4x32 .f32) : FVec Ideal S256x128x32 .f32 :=
  Host.reduceAdd (mulf t (broadcastInDim S256x128x4x32 ![0, 1, 2, 3] bcast_S1x1x4x1_S256x128x4x32_0_1_2_3
      (shapeCast S1x1x4x1 (floats l) shapeCasts_S4_S1x1x4x1)))
    (constant (F := Ideal) S_ .f32 0x00000000#32) reducesTo_S256x128x4x32_S256x128x32_d2 h_S_

/-- The denominator kept away from zero. -/
def guarded (d : FVec Ideal S256x128x32 .f32) : FVec Ideal S256x128x32 .f32 :=
  select (andi (cmpf .olt d (broadcastInDim S256x128x32 ![] bcast_S_S256x128x32 (constant (F := Ideal) S_ .f32 0x33D6BF95#32)))
      (cmpf .ogt d (broadcastInDim S256x128x32 ![] bcast_S_S256x128x32 (constant (F := Ideal) S_ .f32 0xB3D6BF95#32))))
    (mulf (subf (mulf (broadcastInDim S256x128x32 ![] bcast_S_S256x128x32 (constant (F := Ideal) S_ .f32 0x40000000#32))
          (maximumf (Host.sign d) (broadcastInDim S256x128x32 ![] bcast_S_S256x128x32 (constant (F := Ideal) S_ .f32 0x00000000#32))))
        (broadcastInDim S256x128x32 ![] bcast_S_S256x128x32 (constant (F := Ideal) S_ .f32 0x3F800000#32)))
      (broadcastInDim S256x128x32 ![] bcast_S_S256x128x32 (constant (F := Ideal) S_ .f32 0x33D6BF95#32)))
    d

/-- The reference's result, by its parts. -/
theorem res_eq (m : (ℓ : Loc nD τ sig) → Buf (Elt Ideal) ℓ) (c : Dev nD) :
    Value.res_main_v73 m c
      = Host.divf (overGroups lit4 (terms (m ((c.tc : Thread nD τ).loc main_arg0)) (m ((c.tc : Thread nD τ).loc main_arg1))
          (m ((c.tc : Thread nD τ).loc main_arg2))))
        (guarded (overGroups lit5 (terms (m ((c.tc : Thread nD τ).loc main_arg0)) (m ((c.tc : Thread nD τ).loc main_arg1))
          (m ((c.tc : Thread nD τ).loc main_arg2))))) := by
  unfold Value.res_main_v73
  rfl

end Cert.ReferenceIdeal.Formula

end
-- ==== Proof.FormulaRead.lean ====
/-
  The reference's parts read at an index.
-/
module

public import proofs.«01_k».proof.Proof.Formula
public import proofs.«01_k».proof.Proof.Scalar

@[expose] public section

noncomputable section

namespace Cert.ReferenceIdeal.Formula

open Cert.ReferenceIdeal Cert.ReferenceIdeal.Gen Idealize.ShloMosaic Idealize.ShloMosaic.TcCoe Cert.Spec
open scoped BigOperators

/-- A list's place is its one coordinate. -/
theorem place (g : Fin 4) : S4.rowMajor (ix1 g) = g := by
  fin_cases g <;> rfl

/-- A literal list of floats at a group. -/
theorem floats_apply (l : Fin 4 → BitVec 32) (g : Fin 4) : floats l (ix1 g) = Ideal.ofBits .f32 (l g) := by
  unfold floats
  rw [place]
  rfl

/-- A literal list of words at a group. -/
theorem words_apply (l : Fin 4 → BitVec 32) (g : Fin 4) : words l (ix1 g) = l g := by
  unfold words
  rw [place]

/-- A clipped feature. -/
theorem clipped_apply (a0 : FVec Ideal S2048x128 .f32) (k : Fin 2048) (f : Fin 128) :
    clipped a0 (ix2 k f) = clip (a0 (ix2 k f)) := by
  unfold clipped clip top eps
  pointwise
  rfl

/-- A base, in the reference's spelling. -/
theorem bases_apply (a0 : FVec Ideal S2048x128 .f32) (k : Fin 2048) (f : Fin 128) (g : Fin 4) :
    bases a0 (ix3 k f g)
      = Ideal.div (Ideal.ofBits .f32 0x3F800000#32 - Ideal.ofBits .f32 (lit0 g)) (Ideal.ofBits .f32 0x40000000#32)
        + clip (a0 (ix2 k f)) * Ideal.ofBits .f32 (lit0 g) := by
  unfold bases
  pointwise [clipped_apply, floats_apply]

/-- Exponents at a group and a unit. -/
theorem exponents_apply (l : Fin 4 → BitVec 32) (a2 : FVec Ideal S12x32 .f32) (g : Fin 4) (u : Fin 32) :
    exponents l a2 (ix4 0 0 g u) = max (rows l a2 (ix2 g u)) 0 := by
  unfold exponents
  pointwise [Ideal.ofBits_zero_f32]

/-- A power. -/
theorem powers_apply (a0 : FVec Ideal S2048x128 .f32) (a2 : FVec Ideal S12x32 .f32) (k : Fin 2048) (f : Fin 128)
    (g : Fin 4) (u : Fin 32) :
    powers a0 a2 (ix4 k f g u) = Ideal.pow (bases a0 (ix3 k f g)) (max (rows lit1 a2 (ix2 g u)) 0) := by
  unfold powers
  pointwise [exponents_apply]

/-- A weighted power of a sum. -/
theorem terms_apply (a0 : FVec Ideal S2048x128 .f32) (a1 : IVec S2048 32) (a2 : FVec Ideal S12x32 .f32) (s : Fin 256)
    (f : Fin 128) (g : Fin 4) (u : Fin 32) :
    terms a0 a1 a2 (ix4 s f g u)
      = Ideal.pow (max (segmentSum a1 (powers a0 a2) (ix4 s f g u)) eps) (max (rows lit2 a2 (ix2 g u)) 0)
        * rows lit3 a2 (ix2 g u) := by
  unfold terms eps
  pointwise [exponents_apply]

/-- The guarded denominator. -/
theorem guarded_apply (d : FVec Ideal S256x128x32 .f32) (s : Fin 256) (f : Fin 128) (u : Fin 32) :
    guarded d (ix3 s f u) = guardOf (d (ix3 s f u)) := by
  unfold guarded guardOf eps
  pointwise [Ideal.ofBits_zero_f32, Ideal.ofBits_one_f32]
  rfl

/-- A row taken by a literal list: the row the list names at that group. -/
theorem rows_apply (l : Fin 4 → BitVec 32) (a2 : FVec Ideal S12x32 .f32) (g : Fin 4) (u : Fin 32) (r : Fin 12)
    (h : l g = BitVec.ofNat 32 r.val) : rows l a2 (ix2 g u) = a2 (ix2 r u) := by
  have hw : (Scalar.select (IntOp.cmpi .slt (l g) 0#32) (IntOp.addi (l g) 12#32) (l g)).toInt.toNat = r.val := by
    rw [h]
    clear h
    revert r
    decide +kernel
  unfold rows
  generalize hi : (broadcastInDim S4x1 ![0] bcast_S4_S4x1_0
    (select (cmpi .slt (words l) (broadcastInDim S4 ![] bcast_S_S4 (constantI S_ 32 0#32)))
      (addi (words l) (broadcastInDim S4 ![] bcast_S_S4 (constantI S_ 32 12#32))) (words l))) = idx
  have hx : idx (ix2 g 0) = Scalar.select (IntOp.cmpi .slt (l g) 0#32) (IntOp.addi (l g) 12#32) (l g) := by
    rw [← hi]
    pointwise [words_apply]
  refine congrArg a2 (funext fun a => Fin.ext ?_)
  match a with
  | ⟨0, _⟩ =>
    have hs : gather_S12x32_S4x1_S4x32_1_0_n_n_0_1_132.siIdx (ix2 g u) ⟨0, Nat.zero_lt_one⟩ = ix2 g 0 := by
      funext b
      match b with
      | ⟨0, _⟩ => rfl
      | ⟨1, _⟩ => rfl
    have e : min (idx (gather_S12x32_S4x1_S4x32_1_0_n_n_0_1_132.siIdx (ix2 g u) ⟨0, Nat.zero_lt_one⟩)).toInt.toNat (12 - 1) + 0 + 0
        = r.val := by
      rw [hs, hx, hw]
      omega
    exact e
  | ⟨1, _⟩ =>
    have e : 0 + 0 + u.val = u.val := by omega
    exact e

/-- Where a token's entry is added: at its own feature, group and unit, in the segment that its word names. -/
theorem lands_iff (idx : IVec S2048x1 32) (k : Fin 2048) (f : Fin 128) (g : Fin 4) (u : Fin 32)
    (s' : Fin 256) (f' : Fin 128) (g' : Fin 4) (u' : Fin 32) :
    scatter_S256x128x4x32_S2048x1_S2048x128x4x32_123_0_0_1.resultIdx? (ix4 k f g u) idx = some (ix4 s' f' g' u')
      ↔ (idx (ix2 k 0)).toInt = (s'.val : Int) ∧ f = f' ∧ g = g' ∧ u = u' := by
  rw [Routing.resultIdx?_eq_some]
  have hs : scatter_S256x128x4x32_S2048x1_S2048x128x4x32_123_0_0_1.siIdx (ix4 k f g u) ⟨0, Nat.zero_lt_one⟩ = ix2 k 0 := by
    funext b
    match b with
    | ⟨0, _⟩ => rfl
    | ⟨1, _⟩ => rfl
  constructor
  · intro h
    have e0 : (idx (scatter_S256x128x4x32_S2048x1_S2048x128x4x32_123_0_0_1.siIdx (ix4 k f g u) ⟨0, Nat.zero_lt_one⟩)).toInt + (0 : Int)
        = (s'.val : Int) := h 0
    have e1 : (0 : Int) + (f.val : Int) = (f'.val : Int) := h 1
    have e2 : (0 : Int) + (g.val : Int) = (g'.val : Int) := h 2
    have e3 : (0 : Int) + (u.val : Int) = (u'.val : Int) := h 3
    rw [hs] at e0
    exact ⟨by omega, Fin.ext (by omega), Fin.ext (by omega), Fin.ext (by omega)⟩
  · rintro ⟨e0, rfl, rfl, rfl⟩ a
    match a with
    | ⟨0, _⟩ =>
      have e : (idx (scatter_S256x128x4x32_S2048x1_S2048x128x4x32_123_0_0_1.siIdx (ix4 k f g u) ⟨0, Nat.zero_lt_one⟩)).toInt + (0 : Int)
          = (s'.val : Int) := by rw [hs, e0, add_zero]
      exact e
    | ⟨1, _⟩ => exact (zero_add _ : (0 : Int) + (f.val : Int) = f.val)
    | ⟨2, _⟩ => exact (zero_add _ : (0 : Int) + (g.val : Int) = g.val)
    | ⟨3, _⟩ => exact (zero_add _ : (0 : Int) + (u.val : Int) = u.val)

/-- An index of the array of powers is its four coordinates. -/
theorem at_coords (j : S2048x128x4x32.Idx) :
    ∃ (k : Fin 2048) (f : Fin 128) (g : Fin 4) (u : Fin 32), j = ix4 k f g u :=
  ⟨j 0, j 1, j 2, j 3, funext fun a => match a with
    | ⟨0, _⟩ => rfl
    | ⟨1, _⟩ => rfl
    | ⟨2, _⟩ => rfl
    | ⟨3, _⟩ => rfl⟩

/-- A segment's sum: the rows of the tokens whose word, read signed, is the segment. -/
theorem segmentSum_apply (a1 : IVec S2048 32) (U : FVec Ideal S2048x128x4x32 .f32) (s : Fin 256) (f : Fin 128) (g : Fin 4)
    (u : Fin 32) :
    segmentSum a1 U (ix4 s f g u) = ∑ k with (a1 (ix1 k)).toInt = (s.val : Int), U (ix4 k f g u) := by
  have hidx : ∀ k : Fin 2048, broadcastInDim S2048x1 ![0] bcast_S2048_S2048x1_0 a1 (ix2 k 0) = a1 (ix1 k) := by
    intro k
    pointwise
  have h0 : segmentSum a1 U (ix4 s f g u)
      = 0 + ∑ j with scatter_S256x128x4x32_S2048x1_S2048x128x4x32_123_0_0_1.resultIdx? j
          (broadcastInDim S2048x1 ![0] bcast_S2048_S2048x1_0 a1) = some (ix4 s f g u), U j := by
    rw [← Ideal.ofBits_zero_f32]
    rfl
  rw [h0, zero_add]
  refine (Finset.sum_bij (fun k _ => ix4 k f g u) ?_ ?_ ?_ fun _ _ => rfl).symm
  · intro k hk
    rw [Finset.mem_filter] at hk ⊢
    exact ⟨Finset.mem_univ _, (lands_iff _ k f g u s f g u).mpr ⟨(congrArg BitVec.toInt (hidx k)).trans hk.2, rfl, rfl, rfl⟩⟩
  · intro k _ k' _ e
    exact congrFun e 0
  · intro j hj
    rw [Finset.mem_filter] at hj
    obtain ⟨k, f', g', u', rfl⟩ := at_coords j
    obtain ⟨e0, rfl, rfl, rfl⟩ := (lands_iff _ _ _ _ _ s f g u).mp hj.2
    refine ⟨k, ?_, rfl⟩
    rw [Finset.mem_filter]
    exact ⟨Finset.mem_univ _, (congrArg BitVec.toInt (hidx k)).symm.trans e0⟩

/-- The sum over the groups. -/
theorem overGroups_apply (l : Fin 4 → BitVec 32) (t : FVec Ideal S256x128x4x32 .f32) (s : Fin 256) (f : Fin 128)
    (u : Fin 32) :
    overGroups l t (ix3 s f u) = ∑ g : Fin 4, t (ix4 s f g u) * Ideal.ofBits .f32 (l g) := by
  unfold overGroups
  pointwise [floats_apply]

end Cert.ReferenceIdeal.Formula

end
-- ==== Proof.Reference.lean ====
/-
  The reference's result at a segment, a feature and a unit is `Cert.Spec.value` of the feature's column, the segment words and
  the unit's column of parameters: the kernel's function, for all inputs.
-/
module

public import proofs.«01_k».proof.Proof.FormulaRead

@[expose] public section

noncomputable section

namespace Cert.ReferenceIdeal.Formula

open Cert.ReferenceIdeal Cert.ReferenceIdeal.Gen Idealize.ShloMosaic Idealize.ShloMosaic.TcCoe Cert.Spec
open scoped BigOperators

/-- The word of minus one. -/
theorem minus_one : Ideal.ofBits .f32 0xBF800000#32 = ((-1 : ℝ) : EReal) := by
  simp [Ideal.ofBits, Ideal.ieee, -EReal.coe_mul, -EReal.coe_neg]
  norm_num

/-- The word of two. -/
theorem two_word : Ideal.ofBits .f32 0x40000000#32 = ((2 : ℝ) : EReal) := by
  simp [Ideal.ofBits, Ideal.ieee, -EReal.coe_mul]
  norm_num

/-- Where the sign is one, `(1 - e) / 2 + x * e` is the feature. -/
theorem base_plus (x : EReal) :
    Ideal.div (Ideal.ofBits .f32 0x3F800000#32 - Ideal.ofBits .f32 0x3F800000#32) (Ideal.ofBits .f32 0x40000000#32)
      + clip x * Ideal.ofBits .f32 0x3F800000#32 = clip x := by
  have h2 : Ideal.ofBits .f32 0x40000000#32 ≠ 0 := by
    rw [two_word]
    exact_mod_cast (two_ne_zero : (2 : ℝ) ≠ 0)
  have h11 : (1 : EReal) - 1 = 0 := by
    rw [← EReal.coe_one, ← EReal.coe_sub, sub_self, EReal.coe_zero]
  rw [Ideal.ofBits_one_f32, h11, Ideal.zero_div h2, zero_add, mul_one]

/-- Where the sign is minus one, it is the feature's complement. -/
theorem base_minus (x : EReal) :
    Ideal.div (Ideal.ofBits .f32 0x3F800000#32 - Ideal.ofBits .f32 0xBF800000#32) (Ideal.ofBits .f32 0x40000000#32)
      + clip x * Ideal.ofBits .f32 0xBF800000#32 = 1 - clip x := by
  obtain ⟨r, hr, -, -⟩ := clip_real x
  have h2 : ((2 : ℝ) : EReal) ≠ 0 := by exact_mod_cast (two_ne_zero : (2 : ℝ) ≠ 0)
  rw [hr, Ideal.ofBits_one_f32, minus_one, two_word]
  unfold Ideal.div
  rw [if_neg h2, ← EReal.coe_one, ← EReal.coe_sub, ← EReal.coe_inv, ← EReal.coe_mul, ← EReal.coe_mul, ← EReal.coe_add,
    ← EReal.coe_sub]
  congr 1
  ring

/-- A base is the specification's. -/
theorem bases_eq (a0 : FVec Ideal S2048x128 .f32) (k : Fin 2048) (f : Fin 128) (g : Fin 4) :
    bases a0 (ix3 k f g) = base g (a0 (ix2 k f)) := by
  rw [bases_apply]
  match g with
  | 0 => exact base_plus _
  | 1 => exact base_minus _
  | 2 => exact base_plus _
  | 3 => exact base_minus _

/-- A group's weighted power of the sum is the specification's, given which rows the three lists name at the group. -/
theorem terms_eq (a0 : FVec Ideal S2048x128 .f32) (a1 : IVec S2048 32) (a2 : FVec Ideal S12x32 .f32) (s : Fin 256)
    (f : Fin 128) (g : Fin 4) (u : Fin 32) (p q w : Fin 12) (hp : lit1 g = BitVec.ofNat 32 p.val)
    (hq : lit2 g = BitVec.ofNat 32 q.val) (hw : lit3 g = BitVec.ofNat 32 w.val) :
    terms a0 a1 a2 (ix4 s f g u)
      = term g (fun k => a0 (ix2 k f)) (fun k => a1 (ix1 k)) s (a2 (ix2 p u)) (a2 (ix2 q u)) (a2 (ix2 w u)) := by
  rw [terms_apply, segmentSum_apply, rows_apply lit2 a2 g u q hq, rows_apply lit3 a2 g u w hw]
  simp only [powers_apply, bases_eq, rows_apply lit1 a2 g u p hp]
  rfl

/-- The numerator: the sum over the first two groups. -/
theorem numerator (t : FVec Ideal S256x128x4x32 .f32) (s : Fin 256) (f : Fin 128) (u : Fin 32) :
    overGroups lit4 t (ix3 s f u) = t (ix4 s f 0 u) + t (ix4 s f 1 u) := by
  rw [overGroups_apply, Fin.sum_univ_four]
  show t (ix4 s f 0 u) * Ideal.ofBits .f32 0x3F800000#32 + t (ix4 s f 1 u) * Ideal.ofBits .f32 0x3F800000#32
      + t (ix4 s f 2 u) * Ideal.ofBits .f32 0x00000000#32 + t (ix4 s f 3 u) * Ideal.ofBits .f32 0x00000000#32 = _
  rw [Ideal.ofBits_one_f32, Ideal.ofBits_zero_f32, mul_one, mul_one, mul_zero, mul_zero, add_zero, add_zero]

/-- The denominator: the sum over the last two groups. -/
theorem denominator (t : FVec Ideal S256x128x4x32 .f32) (s : Fin 256) (f : Fin 128) (u : Fin 32) :
    overGroups lit5 t (ix3 s f u) = t (ix4 s f 2 u) + t (ix4 s f 3 u) := by
  rw [overGroups_apply, Fin.sum_univ_four]
  show t (ix4 s f 0 u) * Ideal.ofBits .f32 0x00000000#32 + t (ix4 s f 1 u) * Ideal.ofBits .f32 0x00000000#32
      + t (ix4 s f 2 u) * Ideal.ofBits .f32 0x3F800000#32 + t (ix4 s f 3 u) * Ideal.ofBits .f32 0x3F800000#32 = _
  rw [Ideal.ofBits_one_f32, Ideal.ofBits_zero_f32, mul_one, mul_one, mul_zero, mul_zero, zero_add, zero_add]

/-- The reference's result at a segment, a feature and a unit. -/
theorem quotient_apply (a0 : FVec Ideal S2048x128 .f32) (a1 : IVec S2048 32) (a2 : FVec Ideal S12x32 .f32) (s : Fin 256)
    (f : Fin 128) (u : Fin 32) :
    Host.divf (overGroups lit4 (terms a0 a1 a2)) (guarded (overGroups lit5 (terms a0 a1 a2))) (ix3 s f u)
      = value (fun k => a0 (ix2 k f)) (fun k => a1 (ix1 k)) s (fun r => a2 (ix2 r u)) := by
  rw [ValueIdx.hostDivf_apply, guarded_apply, numerator, denominator,
    terms_eq a0 a1 a2 s f 0 u 1 0 8 rfl rfl rfl, terms_eq a0 a1 a2 s f 1 u 3 2 9 rfl rfl rfl,
    terms_eq a0 a1 a2 s f 2 u 5 4 10 rfl rfl rfl, terms_eq a0 a1 a2 s f 3 u 7 6 11 rfl rfl rfl]
  rfl

/-- The reference's whole result, from its three arguments. -/
theorem quotient_eq (a0 : FVec Ideal S2048x128 .f32) (a1 : IVec S2048 32) (a2 : FVec Ideal S12x32 .f32) :
    Host.divf (overGroups lit4 (terms a0 a1 a2)) (guarded (overGroups lit5 (terms a0 a1 a2))) = whole a0 a1 a2 := by
  funext i
  have hx : ∀ (s : Fin 256) (f : Fin 128) (u : Fin 32),
      Host.divf (overGroups lit4 (terms a0 a1 a2)) (guarded (overGroups lit5 (terms a0 a1 a2))) (ix3 s f u)
        = whole a0 a1 a2 (ix3 s f u) := fun s f u => quotient_apply a0 a1 a2 s f u
  have hi : i = ix3 (n0 := 256) (n1 := 128) (n2 := 32) (i 0) (i 1) (i 2) := by
    funext a
    match a with
    | ⟨0, _⟩ => rfl
    | ⟨1, _⟩ => rfl
    | ⟨2, _⟩ => rfl
  exact hi ▸ hx (i 0) (i 1) (i 2)

end Cert.ReferenceIdeal.Formula

end
-- ==== Proof.lean ====
/-
  The certificate's claims: the kernel, its idealization and the reference each run with their arguments unchanged and every
  counter back at zero; the idealization rewrites only a sign read from its bit; and, over extended reals, the kernel's
  whole result equals the reference's whole result, for all inputs. The mathematics is in the modules under Proof/:
  `Scalar` (the common function), `Row`, `Groups`, `Read`, `Block`, `Array` (the kernel's result is it), `Formula`,
  `FormulaRead`, `Reference` (the reference's result is it).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- The kernel runs, its arguments unchanged and its counters at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference, which declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Over extended reals the kernel's whole result equals the reference's: both are `Cert.Spec.whole` of the arguments. -/
theorem results_equal : Cert.algebraic_KernelIdeal_ReferenceIdeal := by
  intro m ρ m' ρ' _ hargs
  refine ⟨fun c => Cert.Spec.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Row.array_eq m c), (h c).2⟩) (Cert.KernelIdeal.Value.run_blocks m ρ)
  · refine (θ_run Cert.ReferenceIdeal.defs _ _).mono (fun _ h c => ⟨(h c).1.trans ?_, (h c).2⟩)
      (Cert.ReferenceIdeal.Value.run m' ρ')
    refine (Cert.ReferenceIdeal.Formula.res_eq m' c).trans ((Cert.ReferenceIdeal.Formula.quotient_eq _ _ _).trans ?_)
    obtain ⟨h0, h1, h2⟩ := hargs c
    rw [h0, h1, h2]

/-- Everything the certificate claims. -/
theorem claim : Cert.Claim := ⟨Cert.Kernel.Gen.facts, Cert.KernelIdeal.Gen.facts, Cert.ReferenceIdeal.Gen.facts,
  frame_kernel, frame_ideal, frame_reference, IdealRules.sign_bit.statement Cert.KernelIdeal.S32x256 .f32, results_equal⟩

end Cert.Proof

end
